-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x28672 : Shape := ⟨3, ![128, 1, 28672]⟩
abbrev S6144x28672 : Shape := ⟨2, ![6144, 28672]⟩
abbrev S768x28672 : Shape := ⟨2, ![768, 28672]⟩
abbrev S_ : Shape := ⟨0, ![]⟩
abbrev S128x28672 : Shape := ⟨2, ![128, 28672]⟩
abbrev S1 : Shape := ⟨1, ![1]⟩
abbrev S128x12288 : Shape := ⟨2, ![128, 12288]⟩
abbrev S128x2048 : Shape := ⟨2, ![128, 2048]⟩
abbrev S512x2048 : Shape := ⟨2, ![512, 2048]⟩
abbrev S64x2048 : Shape := ⟨2, ![64, 2048]⟩
abbrev S128x1024 : Shape := ⟨2, ![128, 1024]⟩
abbrev S512x1x2048 : Shape := ⟨3, ![512, 1, 2048]⟩
abbrev S512x2x2048 : Shape := ⟨3, ![512, 2, 2048]⟩
abbrev S1024x2048 : Shape := ⟨2, ![1024, 2048]⟩
abbrev S64x16x2048 : Shape := ⟨3, ![64, 16, 2048]⟩
abbrev S64x1x2048 : Shape := ⟨3, ![64, 1, 2048]⟩

abbrev nBuf : Space → Nat
  | .hbm => 7
  | .vmem => 9
  | .smem => 1
  | _ => 0

abbrev bufTy : (tb : Table) → Fin (tcTables nBuf tb) → BufTy
  | .hbm, ⟨0, _⟩ => ⟨S128x1x28672, .bf16⟩
  | .hbm, ⟨1, _⟩ => ⟨S6144x28672, .i8⟩
  | .hbm, ⟨2, _⟩ => ⟨S768x28672, .fp8e4m3⟩
  | .hbm, ⟨3, _⟩ => ⟨S_, .f32⟩
  | .hbm, ⟨4, _⟩ => ⟨S128x28672, .bf16⟩
  | .hbm, ⟨5, _⟩ => ⟨S1, .f32⟩
  | .hbm, ⟨6, _⟩ => ⟨S128x12288, .bf16⟩
  | .local _ .vmem, ⟨0, _⟩ => ⟨S128x2048, .bf16⟩
  | .local _ .vmem, ⟨1, _⟩ => ⟨S128x2048, .bf16⟩
  | .local _ .vmem, ⟨2, _⟩ => ⟨S512x2048, .i8⟩
  | .local _ .vmem, ⟨3, _⟩ => ⟨S512x2048, .i8⟩
  | .local _ .vmem, ⟨4, _⟩ => ⟨S64x2048, .fp8e4m3⟩
  | .local _ .vmem, ⟨5, _⟩ => ⟨S64x2048, .fp8e4m3⟩
  | .local _ .vmem, ⟨6, _⟩ => ⟨S128x1024, .bf16⟩
  | .local _ .vmem, ⟨7, _⟩ => ⟨S128x1024, .bf16⟩
  | .local _ .vmem, ⟨8, _⟩ => ⟨S128x1024, .f32⟩
  | .local _ .smem, ⟨0, _⟩ => ⟨S1, .f32⟩
  | _, _ => ⟨S128x1x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 14], ![false, false]⟩

def k0_cond2 (i : grid0.Coords) : BitVec 1 :=
  let arg1 : BitVec 32 := BitVec.ofNat 32 (i 1).val
  let c13_i32 : BitVec 32 := 13#32
  let v52 : BitVec 1 := Scalar.cmpi .eq arg1 c13_i32
  let v53 : BitVec 32 := Scalar.extui v52
  let c0_i32_15 : BitVec 32 := 0#32
  let v54 : BitVec 1 := Scalar.cmpi .ne v53 c0_i32_15
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S128x1x28672 : Shape := ⟨3, ![128, 1, 28672]⟩
abbrev S6144x28672 : Shape := ⟨2, ![6144, 28672]⟩
abbrev S768x28672 : Shape := ⟨2, ![768, 28672]⟩
abbrev S_ : Shape := ⟨0, ![]⟩
abbrev S128x28672 : Shape := ⟨2, ![128, 28672]⟩
abbrev S1 : Shape := ⟨1, ![1]⟩
abbrev S128x12288 : Shape := ⟨2, ![128, 12288]⟩
abbrev S768x8x28672 : Shape := ⟨3, ![768, 8, 28672]⟩
abbrev S768x1x28672 : Shape := ⟨3, ![768, 1, 28672]⟩
abbrev S128x6144 : Shape := ⟨2, ![128, 6144]⟩
abbrev S128x6144x1 : Shape := ⟨3, ![128, 6144, 1]⟩
abbrev S128x6144x2 : Shape := ⟨3, ![128, 6144, 2]⟩

abbrev nBuf : Space → Nat
  | .hbm => 7
  | .vmem => 4
  | .smem => 1
  | _ => 0

abbrev bufTy : (tb : Table) → Fin (tcTables nBuf tb) → BufTy
  | .hbm, ⟨0, _⟩ => ⟨S128x1x28672, .bf16⟩
  | .hbm, ⟨1, _⟩ => ⟨S6144x28672, .i8⟩
  | .hbm, ⟨2, _⟩ => ⟨S768x28672, .fp8e4m3⟩
  | .hbm, ⟨3, _⟩ => ⟨S_, .f32⟩
  | .hbm, ⟨4, _⟩ => ⟨S128x28672, .bf16⟩
  | .hbm, ⟨5, _⟩ => ⟨S1, .f32⟩
  | .hbm, ⟨6, _⟩ => ⟨S128x12288, .bf16⟩
  | .local _ .vmem, ⟨0, _⟩ => ⟨S128x28672, .bf16⟩
  | .local _ .vmem, ⟨1, _⟩ => ⟨S6144x28672, .i8⟩
  | .local _ .vmem, ⟨2, _⟩ => ⟨S768x28672, .fp8e4m3⟩
  | .local _ .vmem, ⟨3, _⟩ => ⟨S128x12288, .bf16⟩
  | .local _ .smem, ⟨0, _⟩ => ⟨S1, .f32⟩
  | _, _ => ⟨S128x1x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x28672 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x28672 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBlock.lean ====
module

public import proofs.«01_k».proof.Proof.Gen.KernelIdeal.Frame
public import Idealize.ShloMosaic.Lib.Pipeline.Value
public import Idealize.ShloMosaic.Lib.Tactic
public import Idealize.ShloMosaic.Lib.Pointwise

/-! What one grid point leaves: the accumulator after the point, and at the last point of a
    sweep the output block, as the body's own arithmetic on the point's input blocks. -/

@[expose] public section

set_option maxRecDepth 16384

noncomputable section

namespace Proof01

open Idealize.ShloMosaic Cert.KernelIdeal Cert.KernelIdeal.Gen

variable {F : FTy → Type} [FloatOps F]

/-- The zero offsets of a rank-two block. -/
theorem hz2 : (![0, 0] : Fin 2 → Nat) = fun _ => 0 := funext fun a => by fin_cases a <;> rfl
theorem hz1 : (![0] : Fin 1 → Nat) = fun _ => 0 := funext fun a => by fin_cases a <;> rfl

/-- The accumulator after a point: what it held, plus the block's product. -/
abbrev accStep (x0 : Vec F S128x2048 .bf16) (x1 : Vec F S512x2048 .i8)
    (x2 : Vec F S64x2048 .fp8e4m3) (acc : Vec F S128x1024 .f32) : Vec F S128x1024 .f32 :=
  k0_pay1 (k0_pay4 x1) (k0_pay5 x2) acc x0

section Cases

variable (c : Dev nD) (i : grid0.Coords)
  (arg2 : Memref sig .tc .vmem S128x2048 .bf16) (harg2 : arg2.IsWhole)
  (arg3 : Memref sig .tc .vmem S512x2048 .i8) (harg3 : arg3.IsWhole)
  (arg4 : Memref sig .tc .vmem S64x2048 .fp8e4m3) (harg4 : arg4.IsWhole)
  (arg5 : Memref sig .tc .smem S1 .f32) (harg5 : arg5.IsWhole)
  (arg6 : Memref sig .tc .vmem S128x1024 .bf16) (harg6 : arg6.IsWhole)
  (arg7 : Memref sig .tc .vmem S128x1024 .f32) (harg7 : arg7.IsWhole)
  (x0 : Vec F S128x2048 .bf16) (x1 : Vec F S512x2048 .i8) (x2 : Vec F S64x2048 .fp8e4m3)
  (x3 : Vec F S1 .f32) (xs0 : Vec F S128x1024 .f32)

/-- A middle point adds its block's product to the accumulator. -/
theorem sout_B (hc0 : ¬cond0_0 i) (hc1 : ¬cond0_1 i) :
    sout0_B_0 c i arg2 harg2 arg3 harg3 arg4 harg4 arg5 harg5 arg6 harg6 arg7 harg7 hc0 hc1
      x0 x1 x2 x3 xs0 = accStep x0 x1 x2 xs0 := by
  unfold sout0_B_0
  rw [View.read_writes_eq_canon _ _ _ (scover0_B_0 c i arg2 harg2 arg3 harg3 arg4 harg4 arg5 harg5
    arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread,
    harg7.read_unread, View.ld_unit_zero (S := S128x2048) hz2, View.ld_unit_zero (S := S512x2048) hz2,
    View.ld_unit_zero (S := S64x2048) hz2, View.ld_unit_zero (S := S128x1024) hz2]

/-- The first point of a sweep starts the accumulator from zero. -/
theorem sout_A (hc0 : cond0_0 i) (hc1 : ¬cond0_1 i) :
    sout0_A_0 c i arg2 harg2 arg3 harg3 arg4 harg4 arg5 harg5 arg6 harg6 arg7 harg7 hc0 hc1
      x0 x1 x2 x3 = accStep x0 x1 x2 k0_pay3 := by
  unfold sout0_A_0
  rw [View.read_writes_eq_canon _ _ _ (scover0_A_0 c i arg2 harg2 arg3 harg3 arg4 harg4 arg5 harg5
    arg6 harg6 arg7 harg7 hc0 hc1 x0 x1 x2 x3)]
  unfold kernelRun0_A
  dsimp only
  sl_unfold_words
  rw [View.canon_cons_unit_zero (S := S128x1024) hz2, View.readCov_unit_zero (S := S128x1024) _ hz2]
  simp only [View.readAt_eq_ld, harg2.read_unread, harg3.read_unread, harg4.read_unread,
    View.ld_unit_zero (S := S128x2048) hz2, View.ld_unit_zero (S := S512x2048) hz2,
    View.ld_unit_zero (S := S64x2048) hz2]

/-- The last point of a sweep scales the finished sum by the global scale. -/
theorem out_C (hc0 : ¬cond0_0 i) (hc1 : cond0_1 i) :
    out0_C_4 c i arg2 harg2 arg3 harg3 arg4 harg4 arg5 harg5 arg6 harg6 arg7 harg7 hc0 hc1
      x0 x1 x2 x3 xs0 = k0_pay2 (accStep x0 x1 x2 xs0) (x3 (ix1 0)) := by
  unfold out0_C_4
  rw [View.read_writes_eq_canon _ _ _ (cover0_C_4 c i arg2 harg2 arg3 harg3 arg4 harg4 arg5 harg5
    arg6 harg6 arg7 harg7 hc0 hc1 x0 x1 x2 x3 xs0)]
  unfold kernelRun0_C
  dsimp only
  sl_unfold_words
  rw [View.canon_unit_zero hz2, View.readCov_unit_zero (S := S128x1024) _ hz2]
  simp only [View.readAt_eq_ld, harg2.read_unread, harg3.read_unread, harg4.read_unread,
    harg5.read_unread, harg7.read_unread, View.ld_unit_zero (S := S128x2048) hz2,
    View.ld_unit_zero (S := S512x2048) hz2, View.ld_unit_zero (S := S64x2048) hz2,
    View.ld_unit_zero (S := S128x1024) hz2]
  have e : ∀ j : S1.Idx, j = ix1 0 := fun j => by
    rw [eq_ix1 j]; exact congrArg ix1 (Subsingleton.elim (α := Fin 1) _ _)
  exact congrArg (k0_pay2 (accStep x0 x1 x2 xs0)) (congrArg x3 (e _))

end Cases

end Proof01
-- ==== Proof.Decode.lean ====
module

public import Idealize.ShloMosaic.Lib.Pointwise

/-! One element of the weight. A four-bit code `s·ee·m` denotes one of sixteen reals;
    the kernel decodes it by whole-number arithmetic in halves, the reference by writing
    the sixteen bits of a bf16. Both give the real of the table `e2m1`. -/

@[expose] public section

set_option maxRecDepth 16384

noncomputable section

namespace Proof01

open Idealize.ShloMosaic

/-- The real a four-bit code denotes: one sign bit, two exponent bits, one fraction bit. -/
def e2m1 : Fin 16 → ℝ :=
  ![0, 1/2, 1, 3/2, 2, 3, 4, 6, 0, -1/2, -1, -3/2, -2, -3, -4, -6]

/-- The low four bits of a byte. -/
def lowNibble (x : BitVec 8) : Fin 16 := ⟨x.toNat % 16, Nat.mod_lt _ (by decide)⟩

/-- The high four bits of a byte. -/
def highNibble (x : BitVec 8) : Fin 16 :=
  ⟨x.toNat / 16, by have := x.isLt; omega⟩

/-- A nibble as a 32-bit word. -/
def word (k : Fin 16) : BitVec 32 := BitVec.ofNat 32 k.val

/-- Masking a byte with 15 leaves its low nibble. -/
theorem low_word (x : BitVec 8) :
    IntOp.andi (BitVec.setWidth 32 x) 15#32 = word (lowNibble x) := by
  revert x; decide +kernel

/-- Shifting a byte right by four leaves its high nibble. -/
theorem high_word (x : BitVec 8) :
    IntOp.shrsi ArithUnit.vector (BitVec.setWidth 32 x) 4#32 = word (highNibble x) := by
  revert x; decide +kernel

/-- The kernel's decode of a code: its magnitude in halves, times plus or minus a half. -/
def kernelDecode (c : BitVec 32) : EReal :=
  Scalar.select (IntOp.cmpi CmpIPredicate.sge c 8#32)
      (Ideal.ofBits FTy.f32 3204448256#32) (Ideal.ofBits FTy.f32 1056964608#32) *
    (FloatOps.sitofp (F := Ideal) FTy.f32
      (Scalar.select (IntOp.cmpi CmpIPredicate.slt (IntOp.andi c 7#32) 4#32)
        (IntOp.andi c 7#32)
        (Scalar.select (IntOp.cmpi CmpIPredicate.slt (IntOp.andi c 7#32) 6#32)
          (IntOp.subi (IntOp.muli (2#32) (IntOp.andi c 7#32)) 4#32)
          (IntOp.subi (IntOp.muli (4#32) (IntOp.andi c 7#32)) 16#32))) : EReal)

/-- The bf16 pattern the reference builds for a code. -/
def referenceBits (c : BitVec 32) : BitVec 16 :=
  IntOp.ori
    (Scalar.select
      (IntOp.cmpi CmpIPredicate.uge (BitVec.setWidth 16 (IntOp.andi c 7#32)) 2#16)
      (IntOp.shli ArithUnit.vector
        (IntOp.addi (BitVec.setWidth 16 (IntOp.andi c 7#32)) 252#16) 6#16)
      (IntOp.muli (BitVec.setWidth 16 (IntOp.andi c 7#32)) 16128#16))
    (IntOp.shli ArithUnit.vector (BitVec.setWidth 16 (IntOp.andi c 8#32)) 12#16)

/-- The patterns of the sixteen codes. -/
theorem referenceBits_word (k : Fin 16) : referenceBits (word k) =
    ![0x0000#16, 0x3F00#16, 0x3F80#16, 0x3FC0#16, 0x4000#16, 0x4040#16, 0x4080#16, 0x40C0#16,
      0x8000#16, 0xBF00#16, 0xBF80#16, 0xBFC0#16, 0xC000#16, 0xC040#16, 0xC080#16, 0xC0C0#16] k := by
  revert k; decide +kernel

/-- The reference's pattern of a code denotes the code's real. -/
theorem reference_decode (k : Fin 16) :
    Ideal.ofBits FTy.bf16 (referenceBits (word k)) = ((e2m1 k : ℝ) : EReal) := by
  rw [referenceBits_word]
  fin_cases k <;> simp [Ideal.ofBits, Ideal.ieee, e2m1, -EReal.coe_mul] <;> norm_num

/-- The f32 pattern of one half. -/
theorem half_bits : Ideal.ofBits FTy.f32 1056964608#32 = (((1 / 2 : ℝ)) : EReal) := by
  simp [Ideal.ofBits, Ideal.ieee, -EReal.coe_mul]; norm_num

/-- The f32 pattern of minus one half. -/
theorem neg_half_bits : Ideal.ofBits FTy.f32 3204448256#32 = (((-1 / 2 : ℝ)) : EReal) := by
  simp [Ideal.ofBits, Ideal.ieee, -EReal.coe_mul]; norm_num

/-- The magnitude of a code, in halves. -/
theorem halves_word (k : Fin 16) :
    (Scalar.select (IntOp.cmpi CmpIPredicate.slt (IntOp.andi (word k) 7#32) 4#32)
        (IntOp.andi (word k) 7#32)
        (Scalar.select (IntOp.cmpi CmpIPredicate.slt (IntOp.andi (word k) 7#32) 6#32)
          (IntOp.subi (IntOp.muli (2#32) (IntOp.andi (word k) 7#32)) 4#32)
          (IntOp.subi (IntOp.muli (4#32) (IntOp.andi (word k) 7#32)) 16#32)) : BitVec 32) =
      ![0#32, 1#32, 2#32, 3#32, 4#32, 6#32, 8#32, 12#32,
        0#32, 1#32, 2#32, 3#32, 4#32, 6#32, 8#32, 12#32] k := by
  revert k; decide +kernel

/-- The codes from eight on are the negative ones. -/
theorem sign_word (k : Fin 16) :
    IntOp.cmpi CmpIPredicate.sge (word k) 8#32 = if k.val < 8 then 0#1 else 1#1 := by
  revert k; decide +kernel

/-- The kernel's decode of a code is the code's real. -/
theorem kernel_decode (k : Fin 16) : kernelDecode (word k) = ((e2m1 k : ℝ) : EReal) := by
  unfold kernelDecode
  rw [halves_word, sign_word, half_bits, neg_half_bits]
  show _ * (((BitVec.toInt _ : ℤ) : ℝ) : EReal) = _
  fin_cases k <;> simp [Scalar.select, e2m1, ← EReal.coe_mul] <;> norm_num

end Proof01
-- ==== Proof.Spec.lean ====
module

public import proofs.«01_k».proof.Proof.Decode
public import Mathlib.Algebra.BigOperators.Intervals

/-! The value both sides compute, over the extended reals: the gradient of a linear layer
    whose weight is stored as four-bit codes, two model rows to a byte, with one scale for
    each sixteen model rows. -/

@[expose] public section

noncomputable section

namespace Proof01

open Idealize.ShloMosaic

/-- The arguments' index types. -/
abbrev DyIdx := (⟨3, ![128, 1, 28672]⟩ : Shape).Idx
abbrev PackedIdx := (⟨2, ![6144, 28672]⟩ : Shape).Idx
abbrev ScaleIdx := (⟨2, ![768, 28672]⟩ : Shape).Idx

/-- The code of model row `i`: an even row is its byte's low nibble, an odd row the high one. -/
def nibble (i : ℕ) (x : BitVec 8) : Fin 16 := if i % 2 < 1 then lowNibble x else highNibble x

variable (x : DyIdx → EReal) (w : PackedIdx → BitVec 8) (s : ScaleIdx → EReal)

/-- The term of output feature `n` in the gradient of row `r`, model row `i`. -/
def term (r : Fin 128) (i : Fin 12288) (n : Fin 28672) : EReal :=
  x (ix3 r 0 n) *
    (((e2m1 (nibble i.val (w (ix2 ⟨i.val / 2, by omega⟩ n))) : ℝ) : EReal) *
      s (ix2 ⟨i.val / 16, by omega⟩ n))

/-- The gradient: the sum over the output features, times the global scale. -/
def dgrad (g : EReal) (r : Fin 128) (i : Fin 12288) : EReal := (∑ n, term x w s r i n) * g

/-- The terms as a function of every natural number, zero past the last feature. -/
def termN (r : Fin 128) (i : Fin 12288) (n : ℕ) : EReal :=
  if h : n < 28672 then term x w s r i ⟨n, h⟩ else 0

/-- Below the last feature it is the term. -/
theorem termN_of_lt (r : Fin 128) (i : Fin 12288) (n : ℕ) (h : n < 28672) :
    termN x w s r i n = term x w s r i ⟨n, h⟩ := dif_pos h

/-- So the sum over the features is a sum over the naturals below their number. -/
theorem sum_termN (r : Fin 128) (i : Fin 12288) :
    ∑ n ∈ Finset.range 28672, termN x w s r i n = ∑ n, term x w s r i n := by
  rw [← Fin.sum_univ_eq_sum_range]
  exact Finset.sum_congr rfl fun n _ => termN_of_lt x w s r i n.val n.isLt

end Proof01
-- ==== Proof.KernelValue.lean ====
module

public import proofs.«01_k».proof.Proof.Gen.KernelIdeal.Value
public import proofs.«01_k».proof.Proof.KernelBlock
public import proofs.«01_k».proof.Proof.Spec

/-! What the kernel's result array holds: at row `r` and model row `i` the gradient of
    Spec.lean, the sum accumulated 2048 features at a time over the fourteen points of a sweep. -/

@[expose] public section

set_option maxRecDepth 16384

noncomputable section

namespace Proof01

open Idealize.ShloMosaic Idealize.ShloMosaic.TcCoe Idealize.SL.Sem
open Cert.KernelIdeal Cert.KernelIdeal.Gen Cert.KernelIdeal.Value

/-! ## The body's arithmetic at one index -/

/-- A decoded block: row `a` holds the codes of packed row `a / 2`. -/
theorem decode_apply (v : Vec Ideal S512x2048 .i8) (a : Fin 1024) (n : Fin 2048) :
    k0_pay4 (F := Ideal) v (ix2 a n) =
      ((e2m1 (nibble a.val (v (ix2 ⟨a.val / 2, by omega⟩ n))) : ℝ) : EReal) := by
  trans kernelDecode (word (nibble a.val (v (ix2 ⟨a.val / 2, by omega⟩ n))))
  · unfold kernelDecode nibble
    pointwise [k0_pay4]
    by_cases h : a.val % 2 < 1
    · simp only [if_pos h, dif_pos h, low_word]
    · simp only [if_neg h, dif_neg h, high_word]
  · exact kernel_decode _

/-- One accumulation step at an index: the held value plus the block's 2048 products. -/
theorem accStep_apply (x0 : Vec Ideal S128x2048 .bf16) (x1 : Vec Ideal S512x2048 .i8)
    (x2 : Vec Ideal S64x2048 .fp8e4m3) (acc : Vec Ideal S128x1024 .f32) (r : Fin 128) (b : Fin 1024) :
    accStep x0 x1 x2 acc (ix2 r b) = acc (ix2 r b) + ∑ n : Fin 2048, (x0 (ix2 r n) : EReal) *
      (((e2m1 (nibble b.val (x1 (ix2 ⟨b.val / 2, by omega⟩ n))) : ℝ) : EReal) *
        x2 (ix2 ⟨b.val / 16, by omega⟩ n)) := by
  simp only [← decode_apply]
  show k0_pay1 (k0_pay4 x1) (k0_pay5 x2) acc x0 (ix2 r b) = _
  generalize k0_pay4 (F := Ideal) x1 = d
  pointwise [k0_pay1, k0_pay5]

/-- The reset block is zero. -/
theorem zero_apply (j : S128x1024.Idx) : (k0_pay3 (F := Ideal) j : EReal) = 0 := by
  pointwise [k0_pay3]

/-- The stored block is the accumulator times the global scale. -/
theorem scale_apply (acc : Vec Ideal S128x1024 .f32) (g : Elt Ideal .f32) (j : S128x1024.Idx) :
    k0_pay2 (F := Ideal) acc g j = (acc j : EReal) * g := by
  pointwise [k0_pay2]

/-! ## The point's input blocks, read off the arguments -/

variable (m : (ℓ : Loc nD τ sig) → Buf (Elt Ideal) ℓ) (ρ : Dev nD → PrngReg)

/-- The arguments of device `c`, by what they mean. -/
abbrev argDy (c : Dev nD) : DyIdx → EReal := m ((c : Thread nD τ).loc main_arg0)
abbrev argW (c : Dev nD) : PackedIdx → BitVec 8 := m ((c : Thread nD τ).loc main_arg1)
abbrev argS (c : Dev nD) : ScaleIdx → EReal := m ((c : Thread nD τ).loc main_arg2)
abbrev argG (c : Dev nD) : EReal := (m ((c : Thread nD τ).loc main_arg3) : S_.Idx → EReal) ix0

/-- The gradient with its unit axis dropped, at an index. -/
theorem cast_dy (y : Vec Ideal S128x1x28672 .bf16) (r : Fin 128) (n : Fin 28672) :
    shapeCast S128x28672 y shapeCasts_S128x1x28672_S128x28672 (ix2 r n) = y (ix3 r 0 n) := by
  pointwise

/-- The global scale as a one-element array. -/
theorem cast_g (y : Vec Ideal S_ .f32) :
    shapeCast S1 y shapeCasts_S_S1 (ix1 0) = y ix0 := by
  pointwise

/-- The call finds the gradient reshaped. -/
theorem V_dy (c : Dev nD) : V m c main_v0 =
    shapeCast S128x28672 (m ((c : Thread nD τ).loc main_arg0)) shapeCasts_S128x1x28672_S128x28672 := by
  show StableHlo.after hostOps0 _ (Proc.devRef .tc main_v0) = _
  after_results
  rfl

/-- The call finds the global scale reshaped. -/
theorem V_g (c : Dev nD) : V m c main_v1 =
    shapeCast S1 (m ((c : Thread nD τ).loc main_arg3)) shapeCasts_S_S1 := by
  show StableHlo.after hostOps0 _ (Proc.devRef .tc main_v1) = _
  after_results
  rfl

/-- The windows' block indices at point `t`. -/
theorem index_facts : ∀ t : Fin cfg0.N,
    win0_0.index t (0 : Fin 2) = 0 ∧ win0_0.index t (1 : Fin 2) = t.val % 14
    ∧ win0_1.index t (0 : Fin 2) = t.val / 14 ∧ win0_1.index t (1 : Fin 2) = t.val % 14
    ∧ win0_2.index t (0 : Fin 2) = t.val / 14 ∧ win0_2.index t (1 : Fin 2) = t.val % 14 :=
  (by decide +kernel : ∀ t : Fin grid0.N, _)

/-- The grid has 168 points. -/
theorem lt_N (t : Fin cfg0.N) : t.val < 168 := lt_of_lt_of_eq t.isLt N_0

/-- The point's gradient block, read off the argument. -/
theorem block_dy (c : Dev nD) (t : Fin cfg0.N) (r : Fin 128) (n : Fin 2048) :
    (iblk m c 0 t : Vec Ideal S128x2048 .bf16) (ix2 r n) =
      argDy m c (ix3 r 0 ⟨2048 * (t.val % 14) + n.val, by omega⟩) := by
  have hi := index_facts t
  trans (V m c main_v0 : S128x28672.Idx → EReal) (ix2 r ⟨2048 * (t.val % 14) + n.val, by omega⟩)
  · unfold iblk
    rw [View.read_apply]
    show V m c main_v0 _ = V m c main_v0 _
    congr 1
    funext a
    apply Fin.ext
    match a with
    | ⟨0, _⟩ => show win0_0.index t 0 * 128 + 1 * r.val = r.val; rw [hi.1]; omega
    | ⟨1, _⟩ => show win0_0.index t 1 * 2048 + 1 * n.val = 2048 * (t.val % 14) + n.val
                rw [hi.2.1]; omega
  · rw [V_dy]
    exact cast_dy _ r _

/-- The point's block of packed rows, read off the argument. -/
theorem block_w (c : Dev nD) (t : Fin cfg0.N) (a : Fin 512) (n : Fin 2048) :
    (iblk m c 1 t : Vec Ideal S512x2048 .i8) (ix2 a n) =
      argW m c (ix2 ⟨512 * (t.val / 14) + a.val, by have := lt_N t; omega⟩
        ⟨2048 * (t.val % 14) + n.val, by omega⟩) := by
  have hi := index_facts t
  unfold iblk
  rw [View.read_apply]
  show V m c main_arg1 _ = _
  rw [V_main_arg1]
  unfold argW
  congr 1
  funext d
  apply Fin.ext
  match d with
  | ⟨0, _⟩ => show win0_1.index t 0 * 512 + 1 * a.val = 512 * (t.val / 14) + a.val
              rw [hi.2.2.1]; omega
  | ⟨1, _⟩ => show win0_1.index t 1 * 2048 + 1 * n.val = 2048 * (t.val % 14) + n.val
              rw [hi.2.2.2.1]; omega

/-- The point's block of scales, read off the argument. -/
theorem block_s (c : Dev nD) (t : Fin cfg0.N) (a : Fin 64) (n : Fin 2048) :
    (iblk m c 2 t : Vec Ideal S64x2048 .fp8e4m3) (ix2 a n) =
      argS m c (ix2 ⟨64 * (t.val / 14) + a.val, by have := lt_N t; omega⟩
        ⟨2048 * (t.val % 14) + n.val, by omega⟩) := by
  have hi := index_facts t
  unfold iblk
  rw [View.read_apply]
  show V m c main_arg2 _ = _
  rw [V_main_arg2]
  unfold argS
  congr 1
  funext d
  apply Fin.ext
  match d with
  | ⟨0, _⟩ => show win0_2.index t 0 * 64 + 1 * a.val = 64 * (t.val / 14) + a.val
              rw [hi.2.2.2.2.1]; omega
  | ⟨1, _⟩ => show win0_2.index t 1 * 2048 + 1 * n.val = 2048 * (t.val % 14) + n.val
              rw [hi.2.2.2.2.2]; omega

/-- The point's global scale is the argument. -/
theorem block_g (c : Dev nD) (t : Fin cfg0.N) :
    (iblk m c 3 t : Vec Ideal S1 .f32) (ix1 0) = argG m c := by
  trans (V m c main_v1 : S1.Idx → EReal) (ix1 0)
  · unfold iblk
    rw [View.read_apply]
    show V m c main_v1 _ = V m c main_v1 _
    congr 1
    funext a
    apply Fin.ext
    match a with
    | ⟨0, _⟩ => rfl
  · rw [V_g]
    exact cast_g _

/-! ## The accumulator after each point -/

/-- The model row that column `b` of point `t`'s block is. -/
abbrev modelRow (t : Fin cfg0.N) (b : Fin 1024) : Fin 12288 :=
  ⟨1024 * (t.val / 14) + b.val, by have := lt_N t; omega⟩

/-- One point adds the next 2048 terms. -/
theorem accStep_block (c : Dev nD) (t : Fin cfg0.N) (acc : Vec Ideal S128x1024 .f32)
    (r : Fin 128) (b : Fin 1024) :
    accStep (iblk m c 0 t) (iblk m c 1 t) (iblk m c 2 t) acc (ix2 r b) =
      acc (ix2 r b) + ∑ n ∈ Finset.range 2048,
        termN (argDy m c) (argW m c) (argS m c) r (modelRow t b) (2048 * (t.val % 14) + n) := by
  rw [accStep_apply, ← Fin.sum_univ_eq_sum_range]
  congr 1
  refine Finset.sum_congr rfl fun n _ => ?_
  rw [termN_of_lt _ _ _ _ _ _ (by omega), block_dy, block_w, block_s]
  unfold term
  have e2 : (1024 * (t.val / 14) + b.val) / 2 = 512 * (t.val / 14) + b.val / 2 := by omega
  have e16 : (1024 * (t.val / 14) + b.val) / 16 = 64 * (t.val / 14) + b.val / 16 := by omega
  have em : (1024 * (t.val / 14) + b.val) % 2 = b.val % 2 := by omega
  simp only [modelRow, nibble, e2, e16, em]

/-- The accumulator after point `n`: the terms of the blocks of its sweep up to it. -/
theorem scratch_eq (c : Dev nD) (r : Fin 128) (b : Fin 1024) : ∀ (n : ℕ) (hn : n < cfg0.N), n % 14 ≠ 13 →
    (outsAt0 m c n hn).2 (ix2 r b) = ∑ k ∈ Finset.range (2048 * (n % 14) + 2048),
      termN (argDy m c) (argW m c) (argS m c) r (modelRow ⟨n, hn⟩ b) k := by
  intro n
  induction n with
  | zero =>
    intro hn h1
    rw [outsAt0_A m c ⟨0, hn⟩ rfl h1]
    dsimp only
    rw [sout_A, accStep_block, zero_apply, zero_add]
    simp
  | succ n ih =>
    intro hn h1
    rw [Finset.sum_range_add]
    by_cases h0 : (n + 1) % 14 = 0
    · rw [outsAt0_A m c ⟨n + 1, hn⟩ h0 h1]
      dsimp only
      rw [sout_A, accStep_block, zero_apply]
      simp [h0]
    · rw [outsAt0_B m c ⟨n + 1, hn⟩ h0 h1]
      dsimp only
      rw [sout_B, accStep_block]
      congr 1
      have hd : (n + 1) / 14 = n / 14 := by omega
      have hm : 2048 * ((n + 1) % 14) = 2048 * (n % 14) + 2048 := by omega
      refine (ih (Nat.lt_of_succ_lt hn) (by omega)).trans ?_
      simp only [modelRow, hd, hm]

/-! ## The result array -/

/-- The last block's terms after those of the thirteen blocks before it. -/
theorem sum_last_block (f : ℕ → EReal) : ∑ k ∈ Finset.range 28672, f k =
    ∑ k ∈ Finset.range 26624, f k + ∑ k ∈ Finset.range 2048, f (26624 + k) :=
  (congrArg (fun N => ∑ k ∈ Finset.range N, f k) (by norm_num : 28672 = 26624 + 2048)).trans
    (Finset.sum_range_add f 26624 2048)

/-- The kernel's result array is the gradient of Spec.lean. -/
theorem result_eq (c : Dev nD) (r : Fin 128) (i : Fin 12288) :
    (G4 m c : S128x12288.Idx → EReal) (ix2 r i) =
      dgrad (argDy m c) (argW m c) (argS m c) (argG m c) r i := by
  have hp : pt4Of (ix2 r i) = 14 * (i.val / 1024) + 13 := by
    show 14 * (12 * (r.val / 128) + 1 * (i.val / 1024)) + 13 = _
    omega
  have hN : (14 * (i.val / 1024) + 13) < cfg0.N := lt_of_lt_of_eq (by omega) N_0.symm
  have hP : pt4Of (ix2 r i) < cfg0.N := by rw [hp]; exact hN
  have hl : loc4Of (ix2 r i) = ix2 r ⟨i.val % 1024, by omega⟩ := by
    funext a
    apply Fin.ext
    match a with
    | ⟨0, _⟩ => show r.val % 128 = r.val; omega
    | ⟨1, _⟩ => rfl
  unfold G4
  rw [dif_pos hP, ← outsAt0_sweep m c _ hP, hl]
  simp only [hp]
  have h0 : ¬(14 * (i.val / 1024) + 13) % 14 = 0 := by omega
  have h1 : (14 * (i.val / 1024) + 13) % 14 = 13 := by omega
  rw [outsAt0_C m c ⟨14 * (i.val / 1024) + 13, hN⟩ h0 h1]
  dsimp only
  rw [out_C, scale_apply, accStep_block, block_g, scratch_eq m c _ _ _ _ (by omega)]
  unfold dgrad
  rw [← sum_termN, sum_last_block]
  have ha : 2048 * ((14 * (i.val / 1024) + 13 - 1) % 14) + 2048 = 26624 := by omega
  have hb : 2048 * ((14 * (i.val / 1024) + 13) % 14) = 26624 := by omega
  have r1 : modelRow ⟨14 * (i.val / 1024) + 13, hN⟩ ⟨i.val % 1024, by omega⟩ = i := by
    apply Fin.ext; show 1024 * ((14 * (i.val / 1024) + 13) / 14) + i.val % 1024 = i.val; omega
  have r2 : modelRow ⟨14 * (i.val / 1024) + 13 - 1, by omega⟩ ⟨i.val % 1024, by omega⟩ = i := by
    apply Fin.ext; show 1024 * ((14 * (i.val / 1024) + 13 - 1) / 14) + i.val % 1024 = i.val; omega
  rw [r1, r2, ha, hb]

end Proof01
-- ==== Proof.ReferenceValue.lean ====
module

public import proofs.«01_k».proof.Proof.Gen.ReferenceIdeal.Value
public import proofs.«01_k».proof.Proof.Spec
public import Idealize.ShloMosaic.Lib.Pipeline.ValueKit
public import Idealize.ShloMosaic.Lib.Tactic

/-! What the reference's result array holds: at row `r` and model row `i` the gradient of
    Spec.lean, the even and the odd model rows contracted apart and interleaved. -/

@[expose] public section

set_option maxRecDepth 16384

noncomputable section

namespace Proof01.Reference

open Idealize.ShloMosaic Idealize.ShloMosaic.TcCoe Idealize.SL.Sem
open Cert.ReferenceIdeal Cert.ReferenceIdeal.Gen Cert.ReferenceIdeal.Value

/-- The zero offsets of a rank-two block. -/
theorem hz2 : (![0, 0] : Fin 2 → Nat) = fun _ => 0 := funext fun a => by fin_cases a <;> rfl

/-! ## The body's arithmetic at one index -/

/-- The stored block as a term of the arguments. -/
def body (x : Vec Ideal S128x28672 .bf16) (w : Vec Ideal S6144x28672 .i8)
    (s : Vec Ideal S768x28672 .fp8e4m3) (g : Elt Ideal .f32) : Vec Ideal S128x12288 .bf16 :=
  k0_pay1 (k0_pay2 x) (k0_pay4 s) (k0_pay5 w s) (k0_pay6 w) (k0_pay7 w) (k0_pay8 w) (k0_pay9 w)
    6#16 g

/-- A low nibble's weight. -/
theorem low_apply (w : Vec Ideal S6144x28672 .i8) (s : Vec Ideal S768x28672 .fp8e4m3)
    (a : Fin 6144) (n : Fin 28672) :
    k0_pay5 (F := Ideal) w s (ix2 a n) =
      ((e2m1 (lowNibble (w (ix2 a n))) : ℝ) : EReal) * s (ix2 ⟨a.val / 8, by omega⟩ n) := by
  rw [← reference_decode, ← low_word]
  unfold referenceBits
  pointwise [k0_pay5, k0_pay4, k0_pay3]

/-- The assembly: even model rows contract the low weights, odd ones the high weights. -/
theorem assembly_apply (x : Vec Ideal S128x28672 .bf16) (w : Vec Ideal S6144x28672 .i8)
    (s : Vec Ideal S768x28672 .fp8e4m3) (lo : FVec Ideal S6144x28672 .bf16) (g : Elt Ideal .f32)
    (r : Fin 128) (i : Fin 12288) :
    k0_pay1 (F := Ideal) (k0_pay2 x) (k0_pay4 s) lo (k0_pay6 (F := Ideal) w)
        (k0_pay7 (F := Ideal) w) (k0_pay8 (F := Ideal) w) (k0_pay9 (F := Ideal) w) 6#16 g (ix2 r i) =
      (if i.val % 2 < 1 then ∑ n, (x (ix2 r n) : EReal) * lo (ix2 ⟨i.val / 2, by omega⟩ n)
       else ∑ n, (x (ix2 r n) : EReal) *
        (((e2m1 (highNibble (w (ix2 ⟨i.val / 2, by omega⟩ n))) : ℝ) : EReal) *
          s (ix2 ⟨i.val / 16, by omega⟩ n))) * g := by
  have e8 : i.val / 2 / 8 = i.val / 16 := by omega
  have er : i.val / 16 * 8 + i.val / 2 % 8 = i.val / 2 := by omega
  simp only [← reference_decode, ← high_word]
  unfold referenceBits
  pointwise [k0_pay1, k0_pay2, k0_pay4, k0_pay6, k0_pay7, k0_pay8, k0_pay9, k0_pay3]
  simp only [e8, er]
  split_ifs <;> rfl

/-- The stored block at an index: the gradient's sum over the features, times the global scale. -/
theorem body_apply (x : Vec Ideal S128x28672 .bf16) (w : Vec Ideal S6144x28672 .i8)
    (s : Vec Ideal S768x28672 .fp8e4m3) (g : Elt Ideal .f32) (r : Fin 128) (i : Fin 12288) :
    body x w s g (ix2 r i) = (∑ n, (x (ix2 r n) : EReal) *
      (((e2m1 (nibble i.val (w (ix2 ⟨i.val / 2, by omega⟩ n))) : ℝ) : EReal) *
        s (ix2 ⟨i.val / 16, by omega⟩ n))) * g := by
  have e8 : i.val / 2 / 8 = i.val / 16 := by omega
  unfold body
  rw [assembly_apply]
  by_cases h : i.val % 2 < 1
  · simp only [if_pos h, nibble, low_apply, e8]
  · simp only [if_neg h, nibble]

/-! ## The run -/

variable (m : (ℓ : Loc nD τ sig) → Buf (Elt Ideal) ℓ) (ρ : Dev nD → PrngReg)

/-- The arguments of device `c`, by what they mean. -/
abbrev argDy (c : Dev nD) : DyIdx → EReal := m ((c : Thread nD τ).loc main_arg0)
abbrev argW (c : Dev nD) : PackedIdx → BitVec 8 := m ((c : Thread nD τ).loc main_arg1)
abbrev argS (c : Dev nD) : ScaleIdx → EReal := m ((c : Thread nD τ).loc main_arg2)
abbrev argG (c : Dev nD) : EReal := (m ((c : Thread nD τ).loc main_arg3) : S_.Idx → EReal) ix0

/-- The gradient with its unit axis dropped, at an index. -/
theorem cast_dy (y : Vec Ideal S128x1x28672 .bf16) (r : Fin 128) (n : Fin 28672) :
    shapeCast S128x28672 y shapeCasts_S128x1x28672_S128x28672 (ix2 r n) = y (ix3 r 0 n) := by
  pointwise

/-- The global scale as a one-element array. -/
theorem cast_g (y : Vec Ideal S_ .f32) :
    shapeCast S1 y shapeCasts_S_S1 (ix1 0) = y ix0 := by
  pointwise

/-- The call finds the gradient reshaped. -/
theorem V_dy (c : Dev nD) : V m c main_v0 =
    shapeCast S128x28672 (m ((c : Thread nD τ).loc main_arg0)) shapeCasts_S128x1x28672_S128x28672 := by
  show StableHlo.after hostOps0 _ (Proc.devRef .tc main_v0) = _
  after_results
  rfl

/-- The call finds the global scale reshaped. -/
theorem V_g (c : Dev nD) : V m c main_v1 =
    shapeCast S1 (m ((c : Thread nD τ).loc main_arg3)) shapeCasts_S_S1 := by
  show StableHlo.after hostOps0 _ (Proc.devRef .tc main_v1) = _
  after_results
  rfl

/-- What the one point stores: the body's term on the point's blocks. -/
theorem out_A (c : Dev nD)
    (arg0 : Memref sig .tc .vmem S128x28672 .bf16) (harg0 : arg0.IsWhole)
    (arg1 : Memref sig .tc .vmem S6144x28672 .i8) (harg1 : arg1.IsWhole)
    (arg2 : Memref sig .tc .vmem S768x28672 .fp8e4m3) (harg2 : arg2.IsWhole)
    (arg3 : Memref sig .tc .smem S1 .f32) (harg3 : arg3.IsWhole)
    (arg4 : Memref sig .tc .vmem S128x12288 .bf16) (harg4 : arg4.IsWhole)
    (x0 : Vec Ideal S128x28672 .bf16) (x1 : Vec Ideal S6144x28672 .i8)
    (x2 : Vec Ideal S768x28672 .fp8e4m3) (x3 : Vec Ideal S1 .f32) :
    out0_A_4 c arg0 harg0 arg1 harg1 arg2 harg2 arg3 harg3 arg4 harg4 x0 x1 x2 x3 =
      body x0 x1 x2 (x3 (ix1 0)) := by
  unfold out0_A_4
  rw [View.read_writes_eq_canon _ _ _ (cover0_A_4 c arg0 harg0 arg1 harg1 arg2 harg2 arg3 harg3
    arg4 harg4 x0 x1 x2 x3)]
  unfold kernelRun0_A
  dsimp only
  sl_unfold_words
  rw [View.canon_unit_zero hz2]
  simp only [View.readAt_eq_ld, harg0.read_unread, harg1.read_unread, harg2.read_unread,
    harg3.read_unread, View.ld_unit_zero (S := S128x28672) hz2,
    View.ld_unit_zero (S := S6144x28672) hz2, View.ld_unit_zero (S := S768x28672) hz2]
  have e : ∀ j : S1.Idx, j = ix1 0 := fun j => by
    rw [eq_ix1 j]; exact congrArg ix1 (Subsingleton.elim (α := Fin 1) _ _)
  exact congrArg (body x0 x1 x2) (congrArg x3 (e _))

/-- Every window's one block is its whole array. -/
theorem block_dy (c : Dev nD) (t : Fin cfg0.N) (r : Fin 128) (n : Fin 28672) :
    (iblk m c 0 t : Vec Ideal S128x28672 .bf16) (ix2 r n) = argDy m c (ix3 r 0 n) := by
  trans (V m c main_v0 : S128x28672.Idx → EReal) (ix2 r n)
  · blk_simp [iblk]
    congr 1
    funext a
    apply Fin.ext
    blk_simp
    match a with
    | ⟨0, _⟩ => show 0 * 128 + r.val = r.val; omega
    | ⟨1, _⟩ => show 0 * 28672 + n.val = n.val; omega
  · rw [V_dy]
    exact cast_dy _ r n

/-- The packed rows are the argument. -/
theorem block_w (c : Dev nD) (t : Fin cfg0.N) (a : Fin 6144) (n : Fin 28672) :
    (iblk m c 1 t : Vec Ideal S6144x28672 .i8) (ix2 a n) = argW m c (ix2 a n) := by
  blk_simp [iblk]
  show V m c main_arg1 _ = _
  rw [V_main_arg1]
  unfold argW
  congr 1
  funext d
  apply Fin.ext
  blk_simp
  match d with
  | ⟨0, _⟩ => show 0 * 6144 + a.val = a.val; omega
  | ⟨1, _⟩ => show 0 * 28672 + n.val = n.val; omega

/-- The scales are the argument. -/
theorem block_s (c : Dev nD) (t : Fin cfg0.N) (a : Fin 768) (n : Fin 28672) :
    (iblk m c 2 t : Vec Ideal S768x28672 .fp8e4m3) (ix2 a n) = argS m c (ix2 a n) := by
  blk_simp [iblk]
  show V m c main_arg2 _ = _
  rw [V_main_arg2]
  unfold argS
  congr 1
  funext d
  apply Fin.ext
  blk_simp
  match d with
  | ⟨0, _⟩ => show 0 * 768 + a.val = a.val; omega
  | ⟨1, _⟩ => show 0 * 28672 + n.val = n.val; omega

/-- The point's global scale is the argument. -/
theorem block_g (c : Dev nD) (t : Fin cfg0.N) :
    (iblk m c 3 t : Vec Ideal S1 .f32) (ix1 0) = argG m c := by
  trans (V m c main_v1 : S1.Idx → EReal) (ix1 0)
  · blk_simp [iblk]
    congr 1
    funext a
    apply Fin.ext
    match a with
    | ⟨0, _⟩ => rfl
  · rw [V_g]
    exact cast_g _

/-- What the one point leaves at row `r`, model row `i`. -/
theorem out_apply (c : Dev nD) (t : Fin cfg0.N) (r : Fin 128) (i : Fin 12288) :
    (outsAt0 m c t : S128x12288.Idx → EReal) (ix2 r i) =
      dgrad (argDy m c) (argW m c) (argS m c) (argG m c) r i := by
  unfold outsAt0
  rw [out_A, body_apply]
  unfold dgrad term
  simp only [block_dy, block_w, block_s, block_g]

/-- The result array. -/
theorem result_eq (c : Dev nD) :
    ((dats m 0 c).arrAt 4 cfg0.N : S128x12288.Idx → EReal) =
      fun j => dgrad (argDy m c) (argW m c) (argS m c) (argG m c) (j 0) (j 1) := by
  refine (dats m 0 c).arrAt_eq_of_covers 4
    (fun j : S128x12288.Idx => dgrad (argDy m c) (argW m c) (argS m c) (argG m c) (j 0) (j 1))
    (by decide +kernel) fun t hf y => ?_
  blk_simp
  rw [after0_4]
  have e : (win0_4.blk t).view.emb y = (y : S128x12288.Idx) := by
    funext d
    apply Fin.ext
    blk_simp
    match d with
    | ⟨0, _⟩ => show 0 * 128 + (y 0).val = (y 0).val; omega
    | ⟨1, _⟩ => show 0 * 12288 + (y 1).val = (y 1).val; omega
  rw [e]
  refine (congrArg (outsAt0 m c t : S128x12288.Idx → EReal) (eq_ix2 (y : S128x12288.Idx))).trans ?_
  exact out_apply m c t _ _

end Proof01.Reference
-- ==== Proof.Equation.lean ====
module

public import proofs.«01_k».proof.Defs
public import proofs.«01_k».proof.Proof.KernelValue
public import proofs.«01_k».proof.Proof.ReferenceValue

/-! The equation: from equal arguments the kernel and the reference end with equal results. -/

@[expose] public section

set_option maxRecDepth 16384

noncomputable section

namespace Proof01

open Idealize.ShloMosaic Idealize.ShloMosaic.TcCoe Idealize.SL.Sem

/-- From equal arguments both end with the gradient of Spec.lean in the result array. -/
theorem algebraic : Cert.algebraic_KernelIdeal_ReferenceIdeal
    (hKernelIdeal := Cert.KernelIdeal.Gen.facts) (hReferenceIdeal := Cert.ReferenceIdeal.Gen.facts) := by
  intro m g m' g' _ hag
  refine ⟨fun c => Cert.KernelIdeal.Value.G4 m c, Cert.KernelIdeal.Value.run m g,
    (θ_run _ _ _).mono (fun _ h c => ⟨(h c).1.trans ?_, (h c).2⟩)
      (Cert.ReferenceIdeal.Value.run_blocks m' g')⟩
  obtain ⟨h0, h1, h2, h3⟩ := hag c
  have e0 : Reference.argDy m' c = argDy m c := h0
  have e1 : Reference.argW m' c = argW m c := h1
  have e2 : Reference.argS m' c = argS m c := h2
  have e3 : Reference.argG m' c = argG m c := congrFun h3 ix0
  refine (Reference.result_eq m' c).trans ?_
  rw [e0, e1, e2, e3]
  funext j
  refine Eq.trans ?_ (congrArg (Cert.KernelIdeal.Value.G4 m c)
    (eq_ix2 (j : (⟨2, ![128, 12288]⟩ : Shape).Idx)).symm)
  exact (result_eq m c _ _).symm

end Proof01
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Equation

@[expose] public section

noncomputable section

namespace Cert.Proof

open Idealize.ShloMosaic Idealize.SL.Sem

/-- The certificate: the three frames, the preservation and the algebraic equation. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    Proof01.algebraic⟩

end Cert.Proof

end
